-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ bitexact_Kernel_Reference (hKernel := hKernel) (hReference := hReference)
    ∧ preserves_Kernel_KernelIdeal
    ∧ algebraic_KernelIdeal_ReferenceIdeal (hKernelIdeal := hKernelIdeal) (hReferenceIdeal := hReferenceIdeal)
-- ==== Kernel.lean ====
abbrev S8x8x257x256 : Shape := ⟨4, ![8, 8, 257, 256]⟩
abbrev S56x2x257x256 : Shape := ⟨4, ![56, 2, 257, 256]⟩
abbrev S1x1x257x256 : Shape := ⟨4, ![1, 1, 257, 256]⟩
abbrev S1x2x257x256 : Shape := ⟨4, ![1, 2, 257, 256]⟩
abbrev S257x256 : Shape := ⟨2, ![257, 256]⟩

abbrev nBuf : Space → Nat
  | .hbm => 2
  | .vmem => 6
  | .smem => 0
  | _ => 0

abbrev bufTy : (tb : Table) → Fin (tcTables nBuf tb) → BufTy
  | .hbm, ⟨0, _⟩ => ⟨S8x8x257x256, .f32⟩
  | .hbm, ⟨1, _⟩ => ⟨S56x2x257x256, .f32⟩
  | .local _ .vmem, ⟨0, _⟩ => ⟨S1x1x257x256, .f32⟩
  | .local _ .vmem, ⟨1, _⟩ => ⟨S1x1x257x256, .f32⟩
  | .local _ .vmem, ⟨2, _⟩ => ⟨S1x1x257x256, .f32⟩
  | .local _ .vmem, ⟨3, _⟩ => ⟨S1x1x257x256, .f32⟩
  | .local _ .vmem, ⟨4, _⟩ => ⟨S1x2x257x256, .f32⟩
  | .local _ .vmem, ⟨5, _⟩ => ⟨S1x2x257x256, .f32⟩
  | _, _ => ⟨S8x8x257x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x1x257x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x257x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x257x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference.lean ====
abbrev S8x8x257x256 : Shape := ⟨4, ![8, 8, 257, 256]⟩
abbrev S8x1x257x256 : Shape := ⟨4, ![8, 1, 257, 256]⟩
abbrev S8x7x257x256 : Shape := ⟨4, ![8, 7, 257, 256]⟩
abbrev S56x257x256 : Shape := ⟨3, ![56, 257, 256]⟩
abbrev S56x1x257x256 : Shape := ⟨4, ![56, 1, 257, 256]⟩
abbrev S56x2x257x256 : Shape := ⟨4, ![56, 2, 257, 256]⟩

abbrev nBuf : Space → Nat
  | .hbm => 9
  | .vmem => 0
  | .smem => 0
  | _ => 0

abbrev bufTy : (tb : Table) → Fin (tcTables nBuf tb) → BufTy
  | .hbm, ⟨0, _⟩ => ⟨S8x8x257x256, .f32⟩
  | .hbm, ⟨1, _⟩ => ⟨S8x1x257x256, .f32⟩
  | .hbm, ⟨2, _⟩ => ⟨S8x7x257x256, .f32⟩
  | .hbm, ⟨3, _⟩ => ⟨S56x257x256, .f32⟩
  | .hbm, ⟨4, _⟩ => ⟨S8x7x257x256, .f32⟩
  | .hbm, ⟨5, _⟩ => ⟨S56x257x256, .f32⟩
  | .hbm, ⟨6, _⟩ => ⟨S56x1x257x256, .f32⟩
  | .hbm, ⟨7, _⟩ => ⟨S56x1x257x256, .f32⟩
  | .hbm, ⟨8, _⟩ => ⟨S56x2x257x256, .f32⟩
  | _, _ => ⟨S8x8x257x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩

abbrev nD : Nat := 1
abbrev τ : Topo := Topo.v7x

variable {F : FTy → Type} [FloatOps F]
-- ==== Proof.PairUp.lean ====
/-
  THE MATHEMATICS of the channel-pair expansion, apart from every program. `pairUp x` is the result as one function of
  the data: pair `p` of the 56 belongs to batch item `p / 7`; its first member is that item's channel 0, its second the
  item's channel `p % 7 + 1`. Two facts about it: the plain text of the problem (slice, broadcast, reshape, stack) is
  `pairUp`, and so is, block by block, what two stores of the two channels leave in a [1, 2, 257, 256] buffer.
-/
module

public import Idealize.ShloMosaic.Lib.Pipeline.Value
public import Idealize.ShloMosaic.Lib.ValueIdxCore

@[expose] public section

noncomputable section

namespace Cert.Expand

open Idealize.ShloMosaic Idealize.ShloMosaic.ValueIdx

/-- The data: 8 batch items of 8 channels. -/
abbrev Data : Shape := ⟨4, ![8, 8, 257, 256]⟩
/-- Channel 0 of every item. -/
abbrev Head : Shape := ⟨4, ![8, 1, 257, 256]⟩
/-- Seven channels of every item. -/
abbrev Rest : Shape := ⟨4, ![8, 7, 257, 256]⟩
/-- The same with item and channel folded into one axis of 56 pairs, -/
abbrev Flat : Shape := ⟨3, ![56, 257, 256]⟩
/-- with a unit axis for the member of the pair, -/
abbrev Member : Shape := ⟨4, ![56, 1, 257, 256]⟩
/-- and the result, both members. -/
abbrev Pairs : Shape := ⟨4, ![56, 2, 257, 256]⟩
/-- One channel of one item: a block of the data. -/
abbrev Chan : Shape := ⟨4, ![1, 1, 257, 256]⟩
/-- The same without its unit axes. -/
abbrev Plane : Shape := ⟨2, ![257, 256]⟩
/-- One pair: a block of the result. -/
abbrev Pair : Shape := ⟨4, ![1, 2, 257, 256]⟩

variable {α : Type}

/-- Where in the data the result's element `i` comes from. -/
def source (i : Pairs.Idx) : Data.Idx :=
  ix4 ⟨(i 0).val / 7, by have : (i 0).val < 56 := (i 0).isLt; omega⟩
    ⟨if (i 1).val = 0 then 0 else (i 0).val % 7 + 1, by split <;> omega⟩ (i 2) (i 3)

/-- The expansion: element `i` of the result is the data at `source i`. -/
def pairUp (x : Data.Idx → α) : Pairs.Idx → α := fun i => x (source i)

/-- The expansion read at an index through any index of the data with the right four coordinates. -/
theorem pairUp_apply (x : Data.Idx → α) (i : Pairs.Idx) (k : Data.Idx) (h0 : (k 0).val = (i 0).val / 7)
    (h1 : (k 1).val = if (i 1).val = 0 then 0 else (i 0).val % 7 + 1) (h2 : (k 2).val = (i 2).val)
    (h3 : (k 3).val = (i 3).val) : pairUp x i = x k :=
  congrArg x (funext fun a => Fin.ext <| match a with
    | ⟨0, _⟩ => h0.symm
    | ⟨1, _⟩ => h1.symm
    | ⟨2, _⟩ => h2.symm
    | ⟨3, _⟩ => h3.symm)

/-! ## The plain text -/

/-- Folding item and channel into one axis: pair `p` is channel `p % 7` of the seven of item `p / 7`. -/
theorem fold_apply (y : Rest.Idx → α) (h : Rest.ShapeCasts Flat) (j : Flat.Idx) :
    shapeCast Flat y h j = y (ix4 ⟨(j 0).val / 7, by have : (j 0).val < 56 := (j 0).isLt; omega⟩
      ⟨(j 0).val % 7, Nat.mod_lt _ (by decide)⟩ (j 1) (j 2)) := by
  refine shapeCast_apply y h j _ ?_
  rw [Shape.rowMajor_val_four, Shape.rowMajor_val_three]
  show (((j 0).val / 7 * 7 + (j 0).val % 7) * 257 + (j 1).val) * 256 + (j 2).val
    = ((j 0).val * 257 + (j 1).val) * 256 + (j 2).val
  rw [Nat.div_add_mod']

/-- Giving the folded array a unit axis for the member does not move its elements. -/
theorem member_apply (y : Flat.Idx → α) (h : Flat.BroadcastsInDim Member (![0, 2, 3] : Fin 3 → Fin Member.rank))
    (i : Member.Idx) : broadcastInDim Member ![0, 2, 3] h y i = y (ix3 (i 0) (i 2) (i 3)) :=
  broadcastInDim_apply _ h y i _ fun a => match a with
    | ⟨0, _⟩ => rfl
    | ⟨1, _⟩ => rfl
    | ⟨2, _⟩ => rfl

/-- The problem's text — channel 0 repeated seven times, the other seven channels, both folded, the two stacked — is
    `pairUp`. -/
theorem stacked_eq (x : Data.Idx → α) (hh : Data.Slices ![0, 0, 0, 0] Head)
    (hb : Head.BroadcastsInDim Rest (![0, 1, 2, 3] : Fin 4 → Fin Rest.rank)) (hc : Rest.ShapeCasts Flat)
    (hr : Data.Slices ![0, 1, 0, 0] Rest)
    (hm : Flat.BroadcastsInDim Member (![0, 2, 3] : Fin 3 → Fin Member.rank))
    (hs : Shape.Concatenates [Member, Member] Pairs 1) :
    concatenate Pairs 1
      [⟨Member, broadcastInDim Member ![0, 2, 3] hm
          (shapeCast Flat (broadcastInDim Rest ![0, 1, 2, 3] hb (extractStridedSlice Head ![0, 0, 0, 0] x hh)) hc)⟩,
        ⟨Member, broadcastInDim Member ![0, 2, 3] hm
          (shapeCast Flat (extractStridedSlice Rest ![0, 1, 0, 0] x hr) hc)⟩] hs = pairUp x := by
  funext i
  have l1 : (i 1).val < 2 := (i 1).isLt
  by_cases h : (i 1).val = 0
  · refine (concatenate_pair_apply_left 1 _ _ hs i rfl (ix4 (i 0) 0 (i 2) (i 3)) fun b => match b with
      | ⟨0, _⟩ => rfl
      | ⟨1, _⟩ => h.symm
      | ⟨2, _⟩ => rfl
      | ⟨3, _⟩ => rfl).trans ?_
    rw [member_apply, fold_apply]
    refine (broadcastInDim_apply _ hb _ _ (ix4 _ 0 (i 2) (i 3)) fun a => match a with
      | ⟨0, _⟩ => rfl
      | ⟨1, _⟩ => rfl
      | ⟨2, _⟩ => rfl
      | ⟨3, _⟩ => rfl).trans ?_
    refine (extractStridedSlice_apply _ x hh _ (source i) fun a => match a with
      | ⟨0, _⟩ => (Nat.zero_add _).symm
      | ⟨1, _⟩ => if_pos h
      | ⟨2, _⟩ => (Nat.zero_add _).symm
      | ⟨3, _⟩ => (Nat.zero_add _).symm)
  · refine (concatenate_pair_apply_right 1 _ _ hs i rfl rfl (ix4 (i 0) 0 (i 2) (i 3)) (fun b hb => match b, hb with
      | ⟨0, _⟩, _ => rfl
      | ⟨1, _⟩, hb => absurd rfl hb
      | ⟨2, _⟩, _ => rfl
      | ⟨3, _⟩, _ => rfl) (by show 0 + 1 = (i 1).val; omega)).trans ?_
    rw [member_apply, fold_apply]
    refine (extractStridedSlice_apply _ x hr _ (source i) fun a => match a with
      | ⟨0, _⟩ => (Nat.zero_add _).symm
      | ⟨1, _⟩ => (if_neg h).trans (Nat.add_comm _ _)
      | ⟨2, _⟩ => (Nat.zero_add _).symm
      | ⟨3, _⟩ => (Nat.zero_add _).symm)

/-! ## One block -/

/-- What one pair's buffer holds: the two channels, one per member. -/
def block (x₀ x₁ : Chan.Idx → α) : Pair.Idx → α := fun y =>
  if (y 1).val = 0 then x₀ (ix4 0 0 (y 2) (y 3)) else x₁ (ix4 0 0 (y 2) (y 3))

/-- Dropping a channel's unit axes and adding them again changes nothing. -/
theorem recast (x : Chan.Idx → α) (h : Chan.ShapeCasts Plane) (h' : Plane.ShapeCasts Chan) :
    shapeCast Chan (shapeCast Plane x h) h' = x := shapeCast_shapeCast x h h'

/-- Storing the second channel over member 1 after the first over member 0 leaves `block`, in every element. -/
theorem stores_eq {Val : EltTy → Type} [∀ e, Nonempty (Val e)] {e : EltTy} (x₀ x₁ : Chan.Idx → Val e)
    (i₁ : ∀ a, (![0, 1, 0, 0] : Fin 4 → Nat) a + Chan.size a ≤ Pair.size a)
    (i₀ : ∀ a, (![0, 0, 0, 0] : Fin 4 → Nat) a + Chan.size a ≤ Pair.size a)
    (hcov : ∀ y : Pair.Idx, ∃ p ∈ ([⟨Rect.unit (s := Pair) ![0, 1, 0, 0] Chan.size i₁, x₁⟩,
      ⟨Rect.unit (s := Pair) ![0, 0, 0, 0] Chan.size i₀, x₀⟩] : List (View.Piece Val Pair e)), y ∈ p.1.set) :
    View.canon ([⟨Rect.unit (s := Pair) ![0, 1, 0, 0] Chan.size i₁, x₁⟩,
      ⟨Rect.unit (s := Pair) ![0, 0, 0, 0] Chan.size i₀, x₀⟩] : List (View.Piece Val Pair e)) = block x₀ x₁ := by
  have coords (off : Fin 4 → Nat) (inb : ∀ a, off a + Chan.size a ≤ Pair.size a) (x : Chan.Idx) (a : Fin 4) :
      ((Rect.unit (s := Pair) off Chan.size inb).emb x a).val = off a + (x a).val := by
    rw [Rect.emb_apply]; show off a + 1 * (x a).val = _; rw [Nat.one_mul]
  have same (off : Fin 4 → Nat) (inb : ∀ a, off a + Chan.size a ≤ Pair.size a) (h2 : off 2 = 0) (h3 : off 3 = 0)
      (x : Chan.Idx) : x = ix4 0 0 ((Rect.unit (s := Pair) off Chan.size inb).emb x 2)
        ((Rect.unit (s := Pair) off Chan.size inb).emb x 3) := by
    refine funext fun a => Fin.ext <| match a with
      | ⟨0, _⟩ => ?_
      | ⟨1, _⟩ => ?_
      | ⟨2, _⟩ => ?_
      | ⟨3, _⟩ => ?_
    · have : (x 0).val < 1 := (x 0).isLt
      show (x 0).val = 0; omega
    · have : (x 1).val < 1 := (x 1).isLt
      show (x 1).val = 0; omega
    · show (x 2).val = _
      rw [show (_ : Nat) = off 2 + (x 2).val from coords off inb x 2, h2, Nat.zero_add]
    · show (x 3).val = _
      rw [show (_ : Nat) = off 3 + (x 3).val from coords off inb x 3, h3, Nat.zero_add]
  funext y
  refine View.canon_apply_of_pieces (block x₀ x₁) _ (fun p hp x => ?_) y (hcov y)
  rcases List.mem_cons.mp hp with rfl | hp
  · have h : ((Rect.unit (s := Pair) ![0, 1, 0, 0] Chan.size i₁).emb x 1).val ≠ 0 := by
      rw [coords]; show 1 + (x 1).val ≠ 0; omega
    exact (congrArg x₁ (same _ i₁ rfl rfl x)).trans (if_neg h).symm
  · obtain rfl := List.mem_singleton.mp hp
    have h : ((Rect.unit (s := Pair) ![0, 0, 0, 0] Chan.size i₀).emb x 1).val = 0 := by
      have : (x 1).val < 1 := (x 1).isLt
      rw [coords]; show 0 + (x 1).val = 0; omega
    exact (congrArg x₀ (same _ i₀ rfl rfl x)).trans (if_pos h).symm

/-- Block `t` of `pairUp x`: if `x₀` reads channel 0 of item `t / 7` and `x₁` channel `t % 7 + 1` of it, the block of the
    two is `pairUp x` at pair `t`. -/
theorem block_eq (x : Data.Idx → α) (t : Nat) (x₀ x₁ : Chan.Idx → α)
    (e₀ e₁ : Chan.Idx → Data.Idx) (h₀ : ∀ z, x₀ z = x (e₀ z)) (h₁ : ∀ z, x₁ z = x (e₁ z))
    (c₀ : ∀ z, (e₀ z 0).val = t / 7 + (z 0).val ∧ (e₀ z 1).val = (z 1).val ∧ (e₀ z 2).val = (z 2).val ∧ (e₀ z 3).val = (z 3).val)
    (c₁ : ∀ z, (e₁ z 0).val = t / 7 + (z 0).val ∧ (e₁ z 1).val = t % 7 + 1 + (z 1).val ∧ (e₁ z 2).val = (z 2).val
      ∧ (e₁ z 3).val = (z 3).val)
    (y : Pair.Idx) (i : Pairs.Idx) (i0 : (i 0).val = t + (y 0).val) (i1 : (i 1).val = (y 1).val)
    (i2 : (i 2).val = (y 2).val) (i3 : (i 3).val = (y 3).val) : block x₀ x₁ y = pairUp x i := by
  have y0 : (y 0).val < 1 := (y 0).isLt
  have i0 : (i 0).val = t := by omega
  unfold block
  by_cases h : (y 1).val = 0
  · obtain ⟨a, b, c, d⟩ := c₀ (ix4 0 0 (y 2) (y 3))
    rw [if_pos h, h₀]
    exact (pairUp_apply x i _ (a.trans (by rw [i0]; rfl)) (b.trans (by rw [if_pos (i1.trans h)]; rfl)) (c.trans i2.symm)
      (d.trans i3.symm)).symm
  · obtain ⟨a, b, c, d⟩ := c₁ (ix4 0 0 (y 2) (y 3))
    rw [if_neg h, h₁]
    exact (pairUp_apply x i _ (a.trans (by rw [i0]; rfl)) (b.trans (by rw [if_neg (i1 ▸ h), i0]; rfl)) (c.trans i2.symm)
      (d.trans i3.symm)).symm

end Cert.Expand

end
-- ==== Proof.KernelIdealValue.lean ====
/-
  THE IDEALIZED KERNEL'S VALUE: its result array ends holding `pairUp` of the data. Grid point `t` = (item, channel) is
  number `7 · item + channel`; it reads channel 0 and channel `t % 7 + 1` of item `t / 7` and writes pair `t`.
-/
module

public import proofs.«01_k».proof.Proof.Gen.KernelIdeal.Value
public import proofs.«01_k».proof.Proof.PairUp

@[expose] public section

noncomputable section

namespace Cert.KernelIdeal.Expanded

open Cert.KernelIdeal Cert.KernelIdeal.Gen Cert.Expand
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What device `c`'s result array is shown to hold. -/
abbrev want (c : Dev nD) : Buf (Elt F) ((c : Thread nD τ).loc main_v0) :=
  pairUp (m ((c : Thread nD τ).loc main_arg0))

/-- The first input's block index at point `t`: channel 0 of item `t / 7`. -/
theorem index0 : ∀ t : Fin cfg0.N, win0_0.index t 0 = t.val / 7 ∧ win0_0.index t 1 = 0 ∧ win0_0.index t 2 = 0
    ∧ win0_0.index t 3 = 0 :=
  (by decide +kernel : ∀ t : Fin grid0.N, win0_0.index t 0 = t.val / 7 ∧ win0_0.index t 1 = 0 ∧ win0_0.index t 2 = 0
    ∧ win0_0.index t 3 = 0)

/-- The second input's: channel `t % 7 + 1` of the same item. -/
theorem index1 : ∀ t : Fin cfg0.N, win0_1.index t 0 = t.val / 7 ∧ win0_1.index t 1 = t.val % 7 + 1
    ∧ win0_1.index t 2 = 0 ∧ win0_1.index t 3 = 0 :=
  (by decide +kernel : ∀ t : Fin grid0.N, win0_1.index t 0 = t.val / 7 ∧ win0_1.index t 1 = t.val % 7 + 1
    ∧ win0_1.index t 2 = 0 ∧ win0_1.index t 3 = 0)

/-- The output's: pair `t`. -/
theorem index2 : ∀ t : Fin cfg0.N, win0_2.index t 0 = t.val ∧ win0_2.index t 1 = 0 ∧ win0_2.index t 2 = 0
    ∧ win0_2.index t 3 = 0 :=
  (by decide +kernel : ∀ t : Fin grid0.N, win0_2.index t 0 = t.val ∧ win0_2.index t 1 = 0 ∧ win0_2.index t 2 = 0
    ∧ win0_2.index t 3 = 0)

/-- The body leaves the two channels it loaded, one per member. -/
theorem out_eq (x₀ x₁ : Vec F S1x1x257x256 .f32) : out0_2 x₀ x₁ = block x₀ x₁ := by
  have hz : (![0, 0, 0, 0] : Fin 4 → Nat) = fun _ => 0 := funext fun a => by fin_cases a <;> rfl
  unfold out0_2 k0_pay1 k0_pay2
  dsimp only
  rw [View.ld_unit_zero hz, View.ld_unit_zero hz, recast, recast]
  exact stores_eq x₀ x₁ _ _ (cover0_2 x₁ x₀)

/-- What point `t` writes back is block `t` of `pairUp` of the data. -/
theorem flushed_eq (c : Dev nD) (t : Fin cfg0.N) :
    (dats m 0 c).flushed 2 t = ((cfg0.win 2).blk t).view.read (Elt F) (want m c) := by
  rw [Value.flushed2, out_eq]
  obtain ⟨a0, a1, a2, a3⟩ := index0 t
  obtain ⟨b0, b1, b2, b3⟩ := index1 t
  obtain ⟨d0, d1, d2, d3⟩ := index2 t
  funext y
  have r0 (z : Chan.Idx) (a : Fin 4) := win0_0.rect_emb_val t z a
  have r1 (z : Chan.Idx) (a : Fin 4) := win0_1.rect_emb_val t z a
  have r2 (a : Fin 4) := win0_2.rect_emb_val t y a
  refine block_eq (m ((c : Thread nD τ).loc main_arg0)) t.val (iblk m c 0 t) (iblk m c 1 t)
    (fun z => (win0_0.rect t).emb z) (fun z => (win0_1.rect t).emb z) (fun _ => rfl) (fun _ => rfl)
    (fun z => ⟨(r0 z 0).trans ?_, (r0 z 1).trans ?_, (r0 z 2).trans ?_, (r0 z 3).trans ?_⟩)
    (fun z => ⟨(r1 z 0).trans ?_, (r1 z 1).trans ?_, (r1 z 2).trans ?_, (r1 z 3).trans ?_⟩)
    y ((win0_2.rect t).emb y) ((r2 0).trans ?_) ((r2 1).trans ?_) ((r2 2).trans ?_) ((r2 3).trans ?_)
  · rw [a0]; exact congrArg (· + _) (Nat.mul_one _)
  · rw [a1, Nat.zero_mul, Nat.zero_add]
  · rw [a2, Nat.zero_mul, Nat.zero_add]
  · rw [a3, Nat.zero_mul, Nat.zero_add]
  · rw [b0]; exact congrArg (· + _) (Nat.mul_one _)
  · rw [b1]; exact congrArg (· + _) (Nat.mul_one _)
  · rw [b2, Nat.zero_mul, Nat.zero_add]
  · rw [b3, Nat.zero_mul, Nat.zero_add]
  · rw [d0]; exact congrArg (· + _) (Nat.mul_one _)
  · rw [d1, Nat.zero_mul, Nat.zero_add]
  · rw [d2, Nat.zero_mul, Nat.zero_add]
  · rw [d3, Nat.zero_mul, Nat.zero_add]

/-- Every element of the result is in some point's block: pair `p` is written at point `p`. -/
theorem cover (i : S56x2x257x256.Idx) :
    ∃ t : Fin cfg0.N, (cfg0.win 2).flush t = true ∧ i ∈ ((cfg0.win 2).blk t).view.set := by
  have hN : cfg0.N = 56 := N_0
  have h0 : (i 0).val < 56 := (i 0).isLt
  obtain ⟨t, ht⟩ : ∃ t : Fin cfg0.N, t.val = (i 0).val := ⟨⟨(i 0).val, by omega⟩, rfl⟩
  obtain ⟨d0, d1, d2, d3⟩ := index2 t
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    rw [d0]; omega
  | ⟨1, _⟩ =>
    have : (i 1).val < 2 := (i 1).isLt
    show win0_2.index t 1 * 2 ≤ (i 1).val ∧ (i 1).val < win0_2.index t 1 * 2 + 2
    rw [d1]; omega
  | ⟨2, _⟩ =>
    have : (i 2).val < 257 := (i 2).isLt
    show win0_2.index t 2 * 257 ≤ (i 2).val ∧ (i 2).val < win0_2.index t 2 * 257 + 257
    rw [d2]; omega
  | ⟨3, _⟩ =>
    have : (i 3).val < 256 := (i 3).isLt
    show win0_2.index t 3 * 256 ≤ (i 3).val ∧ (i 3).val < win0_2.index t 3 * 256 + 256
    rw [d3]; omega

/-- The run: the result array ends at `pairUp` of the data, the data unchanged. -/
theorem run : θ_run defs (onTc (τ := τ) (main (F := F))) ⟨m, fun _ => 0, ρ⟩ fun r => ∀ c : Dev nD,
      r.2.mem ((c : Thread nD τ).loc main_v0) = want m c
      ∧ r.2.mem ((c : Thread nD τ).loc main_arg0) = m ((c : Thread nD τ).loc main_arg0) :=
  (θ_run defs _ _).mono (fun _ h c => ⟨(h c).1.trans
      ((dats m 0 c).arrAt_eq_of_cover 2 (want m c) (fun t _ => flushed_eq m c t) cover), (h c).2⟩)
    (Value.run_blocks m ρ)

end Cert.KernelIdeal.Expanded

end
-- ==== Proof.KernelValue.lean ====
/-
  THE KERNEL'S VALUE at any float values: its text is the idealized kernel's, operation for operation, so that one's run
  is its own.
-/
module

public import proofs.«01_k».proof.Proof.Gen.Kernel.Frame
public import proofs.«01_k».proof.Proof.KernelIdealValue

@[expose] public section

noncomputable section

namespace Cert.Kernel.Expanded

open Cert.Kernel Cert.Kernel.Gen Cert.Expand
open Idealize.ShloMosaic Idealize.ShloMosaic.TcCoe Idealize.SL.Sem

variable {F : FTy → Type} [FloatOps F]
variable (m : (ℓ : Loc nD τ sig) → Buf (Elt F) ℓ) (ρ : Dev nD → PrngReg)

/-- The two programs' body tables agree: at the one label, on every grid point and choice of staging buffers, the same
    function is called on the same operands. -/
theorem bodies_eq : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))

/-- So do the tables with the pipeline's own functions added, -/
theorem defs_eq : Cert.Kernel.defs (F := F) = Cert.KernelIdeal.defs (F := F) :=
  congrArg (Pipeline.defs Cert.KernelIdeal.pcfgs) bodies_eq

/-- and @main is one region in both. -/
theorem main_eq : Cert.Kernel.main (F := F) = Cert.KernelIdeal.main (F := F) := rfl

/-- The run: the result array ends at `pairUp` of the data, the data unchanged. -/
theorem run : θ_run defs (onTc (τ := τ) (main (F := F))) ⟨m, fun _ => 0, ρ⟩ fun r => ∀ c : Dev nD,
      r.2.mem ((c : Thread nD τ).loc main_v0) = pairUp (m ((c : Thread nD τ).loc main_arg0))
      ∧ r.2.mem ((c : Thread nD τ).loc main_arg0) = m ((c : Thread nD τ).loc main_arg0) :=
  by
  rw [defs_eq, main_eq]
  exact Cert.KernelIdeal.Expanded.run (F := F) m ρ

end Cert.Kernel.Expanded

end
-- ==== Proof.lean ====
/-
  The proof of `Cert.Claim`: the frames, and that the pipelined kernel computes the channel-pair expansion that the plain
  text defines — the same words at `Bits`, the same extended reals at `Ideal`. Both ends of each value claim are
  `Cert.Expand.pairUp` of the data (Proof/PairUp.lean): the kernel's by Proof/KernelIdealValue.lean and KernelValue.lean,
  the reference's by `stacked_eq`.
-/
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.PairUp
public import proofs.«01_k».proof.Proof.KernelIdealValue
public import proofs.«01_k».proof.Proof.KernelValue
public import Idealize.ShloMosaic.Lib.Quiescent

@[expose] public section

noncomputable section

namespace Cert.Proof

open Idealize.ShloMosaic Idealize.ShloMosaic.TcCoe Idealize.SL.Sem Cert.Expand

/-- The reference leaves its argument unchanged and declares no semaphore. -/
theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The same over the extended reals. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same words: both at `pairUp` of the data. -/
theorem bitexact : Cert.bitexact_Kernel_Reference := by
  intro m ρ m' ρ' _ hagree
  refine ⟨fun c => pairUp (m ((c : Thread Cert.Kernel.nD Cert.Kernel.τ).loc Cert.Kernel.main_arg0)),
    Cert.Kernel.Expanded.run (F := Bits) m ρ, ?_⟩
  refine (θ_run Cert.Reference.defs _ _).mono (fun _ h c => ⟨(h c).1.trans ?_, (h c).2⟩)
    (Cert.Reference.Value.run (F := Bits) m' ρ')
  rw [hagree c]
  exact stacked_eq _ _ _ _ _ _ _

/-- Kernel and reference compute the same function over the extended reals. -/
theorem algebraic : Cert.algebraic_KernelIdeal_ReferenceIdeal := by
  intro m ρ m' ρ' _ hagree
  refine ⟨fun c => pairUp (m ((c : Thread Cert.KernelIdeal.nD Cert.KernelIdeal.τ).loc Cert.KernelIdeal.main_arg0)),
    Cert.KernelIdeal.Expanded.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [hagree c]
  exact stacked_eq _ _ _ _ _ _ _

/-- Everything the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ, frame_reference,
    frame_referenceIdeal, bitexact, trivial, algebraic⟩

end Cert.Proof

end
